-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x512 : Shape := ⟨2, ![2048, 512]⟩
abbrev S512 : Shape := ⟨1, ![512]⟩
abbrev S512x16 : Shape := ⟨2, ![512, 16]⟩
abbrev S16 : Shape := ⟨1, ![16]⟩
abbrev S_ : Shape := ⟨0, ![]⟩

class Facts : Prop where
  bcast_S_S8192x2048 : S_.BroadcastsInDim S8192x2048 (![] : Fin 0 → Fin S8192x2048.rank)
  bcast_S_S2048x512 : S_.BroadcastsInDim S2048x512 (![] : Fin 0 → Fin S2048x512.rank)
  bcast_S_S512 : S_.BroadcastsInDim S512 (![] : Fin 0 → Fin S512.rank)
  bcast_S_S512x16 : S_.BroadcastsInDim S512x16 (![] : Fin 0 → Fin S512x16.rank)
  bcast_S_S16 : S_.BroadcastsInDim S16 (![] : Fin 0 → Fin S16.rank)

variable [Facts]

def fn {F : FTy → Type} [FloatOps F] (main_arg0 : FVec F S8192x2048 .f32) (main_arg1 : FVec F S2048x512 .f32) (main_arg2 : FVec F S512 .f32) (main_arg3 : FVec F S512x16 .f32) (main_arg4 : FVec F S16 .f32) (main_arg5 : FVec F S2048x512 .f32) (main_arg6 : FVec F S512 .f32) (main_arg7 : FVec F S512x16 .f32) (main_arg8 : FVec F S16 .f32) : IVec S8192x2048 1 × IVec S2048x512 1 × IVec S512 1 × IVec S512x16 1 × IVec S16 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_v12 : FVec F S16 .f32 := Host.absf main_arg4
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  (main_v2, main_v5, main_v8, main_v11, main_v14)
-- ==== Kernel.lean ====
abbrev S8192x2048 : Shape := ⟨2, ![8192, 2048]⟩
abbrev S2048x512 : Shape := ⟨2, ![2048, 512]⟩
abbrev S512 : Shape := ⟨1, ![512]⟩
abbrev S512x16 : Shape := ⟨2, ![512, 16]⟩
abbrev S16 : Shape := ⟨1, ![16]⟩
abbrev S1x512 : Shape := ⟨2, ![1, 512]⟩
abbrev S1x16 : Shape := ⟨2, ![1, 16]⟩
abbrev S8192x16 : Shape := ⟨2, ![8192, 16]⟩
abbrev S8192x2 : Shape := ⟨2, ![8192, 2]⟩
abbrev S2048x2048 : Shape := ⟨2, ![2048, 2048]⟩
abbrev S2048x16 : Shape := ⟨2, ![2048, 16]⟩
abbrev S2048x2 : Shape := ⟨2, ![2048, 2]⟩
abbrev S2048x256 : Shape := ⟨2, ![2048, 256]⟩
abbrev S256x512 : Shape := ⟨2, ![256, 512]⟩
abbrev S2048 : Shape := ⟨1, ![2048]⟩
abbrev S2048x1 : Shape := ⟨2, ![2048, 1]⟩

abbrev nBuf : Space → Nat
  | .hbm => 13
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x512, .f32⟩
  | .hbm, ⟨2, _⟩ => ⟨S512, .f32⟩
  | .hbm, ⟨3, _⟩ => ⟨S512x16, .f32⟩
  | .hbm, ⟨4, _⟩ => ⟨S16, .f32⟩
  | .hbm, ⟨5, _⟩ => ⟨S2048x512, .f32⟩
  | .hbm, ⟨6, _⟩ => ⟨S512, .f32⟩
  | .hbm, ⟨7, _⟩ => ⟨S512x16, .f32⟩
  | .hbm, ⟨8, _⟩ => ⟨S16, .f32⟩
  | .hbm, ⟨9, _⟩ => ⟨S1x512, .f32⟩
  | .hbm, ⟨10, _⟩ => ⟨S1x16, .f32⟩
  | .hbm, ⟨11, _⟩ => ⟨S8192x16, .f32⟩
  | .hbm, ⟨12, _⟩ => ⟨S8192x2, .i32⟩
  | .local _ .vmem, ⟨0, _⟩ => ⟨S2048x2048, .f32⟩
  | .local _ .vmem, ⟨1, _⟩ => ⟨S2048x2048, .f32⟩
  | .local _ .vmem, ⟨2, _⟩ => ⟨S2048x512, .f32⟩
  | .local _ .vmem, ⟨3, _⟩ => ⟨S1x512, .f32⟩
  | .local _ .vmem, ⟨4, _⟩ => ⟨S512x16, .f32⟩
  | .local _ .vmem, ⟨5, _⟩ => ⟨S1x16, .f32⟩
  | .local _ .vmem, ⟨6, _⟩ => ⟨S2048x16, .f32⟩
  | .local _ .vmem, ⟨7, _⟩ => ⟨S2048x16, .f32⟩
  | .local _ .vmem, ⟨8, _⟩ => ⟨S2048x2, .i32⟩
  | .local _ .vmem, ⟨9, _⟩ => ⟨S2048x2, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x2 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8192x2048 : Shape := ⟨2, ![8192, 2048]⟩
abbrev S2048x512 : Shape := ⟨2, ![2048, 512]⟩
abbrev S512 : Shape := ⟨1, ![512]⟩
abbrev S512x16 : Shape := ⟨2, ![512, 16]⟩
abbrev S16 : Shape := ⟨1, ![16]⟩
abbrev S8192x512 : Shape := ⟨2, ![8192, 512]⟩
abbrev S1x512 : Shape := ⟨2, ![1, 512]⟩
abbrev S_ : Shape := ⟨0, ![]⟩
abbrev S8192x16 : Shape := ⟨2, ![8192, 16]⟩
abbrev S1x16 : Shape := ⟨2, ![1, 16]⟩
abbrev S8192x2 : Shape := ⟨2, ![8192, 2]⟩
abbrev S8192 : Shape := ⟨1, ![8192]⟩
abbrev S8192x1 : Shape := ⟨2, ![8192, 1]⟩
abbrev S8192x2x1 : Shape := ⟨3, ![8192, 2, 1]⟩
abbrev S8192x2x2 : Shape := ⟨3, ![8192, 2, 2]⟩

abbrev nBuf : Space → Nat
  | .hbm => 88
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x512, .f32⟩
  | .hbm, ⟨2, _⟩ => ⟨S512, .f32⟩
  | .hbm, ⟨3, _⟩ => ⟨S512x16, .f32⟩
  | .hbm, ⟨4, _⟩ => ⟨S16, .f32⟩
  | .hbm, ⟨5, _⟩ => ⟨S2048x512, .f32⟩
  | .hbm, ⟨6, _⟩ => ⟨S512, .f32⟩
  | .hbm, ⟨7, _⟩ => ⟨S512x16, .f32⟩
  | .hbm, ⟨8, _⟩ => ⟨S16, .f32⟩
  | .hbm, ⟨9, _⟩ => ⟨S8192x512, .f32⟩
  | .hbm, ⟨10, _⟩ => ⟨S1x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x16, .f32⟩
  | .hbm, ⟨17, _⟩ => ⟨S1x16, .f32⟩
  | .hbm, ⟨18, _⟩ => ⟨S8192x16, .f32⟩
  | .hbm, ⟨19, _⟩ => ⟨S8192x16, .f32⟩
  | .hbm, ⟨20, _⟩ => ⟨S8192x512, .f32⟩
  | .hbm, ⟨21, _⟩ => ⟨S1x512, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192x512, .f32⟩
  | .hbm, ⟨26, _⟩ => ⟨S8192x512, .f32⟩
  | .hbm, ⟨27, _⟩ => ⟨S8192x16, .f32⟩
  | .hbm, ⟨28, _⟩ => ⟨S1x16, .f32⟩
  | .hbm, ⟨29, _⟩ => ⟨S8192x16, .f32⟩
  | .hbm, ⟨30, _⟩ => ⟨S8192x16, .f32⟩
  | .hbm, ⟨31, _⟩ => ⟨S_, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S8192x16, .i1⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S8192x16, .f32⟩
  | .hbm, ⟨44, _⟩ => ⟨S8192x16, .f32⟩
  | .hbm, ⟨45, _⟩ => ⟨S_, .f32⟩
  | .hbm, ⟨46, _⟩ => ⟨S8192x16, .f32⟩
  | .hbm, ⟨47, _⟩ => ⟨S8192x16, .f32⟩
  | .hbm, ⟨48, _⟩ => ⟨S8192x16, .f32⟩
  | .hbm, ⟨49, _⟩ => ⟨S8192x2, .f32⟩
  | .hbm, ⟨50, _⟩ => ⟨S8192x2, .i32⟩
  | .hbm, ⟨51, _⟩ => ⟨S_, .f32⟩
  | .hbm, ⟨52, _⟩ => ⟨S8192x16, .f32⟩
  | .hbm, ⟨53, _⟩ => ⟨S8192, .i32⟩
  | .hbm, ⟨54, _⟩ => ⟨S8192x1, .i32⟩
  | .hbm, ⟨55, _⟩ => ⟨S_, .i32⟩
  | .hbm, ⟨56, _⟩ => ⟨S8192x1, .i32⟩
  | .hbm, ⟨57, _⟩ => ⟨S8192x1, .i1⟩
  | .hbm, ⟨58, _⟩ => ⟨S_, .i32⟩
  | .hbm, ⟨59, _⟩ => ⟨S8192x1, .i32⟩
  | .hbm, ⟨60, _⟩ => ⟨S8192x1, .i32⟩
  | .hbm, ⟨61, _⟩ => ⟨S8192x1, .i32⟩
  | .hbm, ⟨62, _⟩ => ⟨S_, .i32⟩
  | .hbm, ⟨63, _⟩ => ⟨S8192x2, .i32⟩
  | .hbm, ⟨64, _⟩ => ⟨S8192x2, .i1⟩
  | .hbm, ⟨65, _⟩ => ⟨S_, .i32⟩
  | .hbm, ⟨66, _⟩ => ⟨S8192x2, .i32⟩
  | .hbm, ⟨67, _⟩ => ⟨S8192x2, .i32⟩
  | .hbm, ⟨68, _⟩ => ⟨S8192x2, .i32⟩
  | .hbm, ⟨69, _⟩ => ⟨S8192x2, .i32⟩
  | .hbm, ⟨70, _⟩ => ⟨S8192x2x1, .i32⟩
  | .hbm, ⟨71, _⟩ => ⟨S8192x2x1, .i32⟩
  | .hbm, ⟨72, _⟩ => ⟨S8192x2x2, .i32⟩
  | .hbm, ⟨73, _⟩ => ⟨S8192x16, .f32⟩
  | .hbm, ⟨74, _⟩ => ⟨S_, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192x1, .f32⟩
  | .hbm, ⟨80, _⟩ => ⟨S8192x16, .f32⟩
  | .hbm, ⟨81, _⟩ => ⟨S8192x16, .f32⟩
  | .hbm, ⟨82, _⟩ => ⟨S8192x16, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x16, .f32⟩
  | .hbm, ⟨87, _⟩ => ⟨S8192x16, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_cst : Ref sig .tc := ⟨.hbm, 24, rfl⟩
abbrev main_call1_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call2_cst : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_v18 : Ref sig .tc := ⟨.hbm, 44, rfl⟩
abbrev main_cst : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_values : Ref sig .tc := ⟨.hbm, 49, rfl⟩
abbrev main_indices : Ref sig .tc := ⟨.hbm, 50, rfl⟩
abbrev main_cst_0 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c : Ref sig .tc := ⟨.hbm, 55, rfl⟩
abbrev main_v25 : Ref sig .tc := ⟨.hbm, 56, rfl⟩
abbrev main_v26 : Ref sig .tc := ⟨.hbm, 57, rfl⟩
abbrev main_c_1 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_2 : Ref sig .tc := ⟨.hbm, 62, rfl⟩
abbrev main_v30 : Ref sig .tc := ⟨.hbm, 63, rfl⟩
abbrev main_v31 : Ref sig .tc := ⟨.hbm, 64, rfl⟩
abbrev main_c_3 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_4 : Ref sig .tc := ⟨.hbm, 74, rfl⟩
abbrev main_v40 : Ref sig .tc := ⟨.hbm, 75, rfl⟩
abbrev main_cst_5 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_6 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩

abbrev nD : Nat := 1
abbrev τ : Topo := Topo.v7x

variable {F : FTy → Type} [FloatOps F]
-- ==== Proof.TopTwo.lean ====
/-
  THE MATHEMATICS OF ONE ROW. A row is sixteen extended reals, the scores of one token for the sixteen experts. Its BEST position
  holds the greatest score and is the first that does; its RUNNER-UP is the same among the other positions. Here stand, with no
  program in sight:

    * both positions exist (`exists_best`, `exists_runnerUp`);
    * the kernel's search — the row's maximum, then the maximum of the negated position numbers over the positions that reach it,
      with −16 standing at the others — finds the best position (`search_eq`), and, run again on the row with the best score
      struck out to −∞, the runner-up (`search_struck`);
    * a stable sort, greater first, has the best position in place 0 and the runner-up in place 1
      (`sortedFrom_pair`);
    * the softmax of the row that keeps those two scores and has −∞ elsewhere is `share` (`softmax_eq_share`), the two
      weights `1 / (1 + exp (v₁ − v₀))` and `exp (v₁ − v₀) · (1 / (1 + exp (v₁ − v₀)))`.
-/
module

public import Idealize.ShloMosaic.Lib.Pointwise
public import Idealize.ShloMosaic.Lib.IdealHost
public import Idealize.ShloMosaic.Lib.SortPrefix

@[expose] public section

noncomputable section

open Idealize.ShloMosaic

namespace Cert.TopTwo

/-! ## The two positions -/

/-- `a` is the first position of the greatest entry of `s`. -/
structure Best (s : Fin 16 → EReal) (a : Fin 16) : Prop where
  le : ∀ e, s e ≤ s a
  lt : ∀ e, e < a → s e < s a

/-- `b` is the first position of the greatest entry of `s` among the positions other than `a`. -/
structure RunnerUp (s : Fin 16 → EReal) (a b : Fin 16) : Prop where
  ne : b ≠ a
  le : ∀ e, e ≠ a → s e ≤ s b
  lt : ∀ e, e ≠ a → e < b → s e < s b

/-- In a nonempty set of positions some position is the first of the set's greatest entry. -/
theorem exists_first (s : Fin 16 → EReal) (S : Finset (Fin 16)) (hS : S.Nonempty) :
    ∃ a ∈ S, (∀ e ∈ S, s e ≤ s a) ∧ ∀ e ∈ S, e < a → s e < s a := by
  obtain ⟨a, ha, hmax⟩ := S.exists_max_image (fun e => toLex (s e, OrderDual.toDual e)) hS
  refine ⟨a, ha, fun e he => ?_, fun e he hlt => ?_⟩
  · rcases Prod.Lex.toLex_le_toLex.mp (hmax e he) with h | h
    · exact h.le
    · exact h.1.le
  · rcases Prod.Lex.toLex_le_toLex.mp (hmax e he) with h | h
    · exact h
    · exact absurd (OrderDual.toDual_le_toDual.mp h.2) (not_le.mpr hlt)

/-- Every row has a best position. -/
theorem exists_best (s : Fin 16 → EReal) : ∃ a, Best s a := by
  obtain ⟨a, -, h, h'⟩ := exists_first s Finset.univ Finset.univ_nonempty
  exact ⟨a, fun e => h e (Finset.mem_univ e), fun e => h' e (Finset.mem_univ e)⟩

/-- Every row has a runner-up to any position. -/
theorem exists_runnerUp (s : Fin 16 → EReal) (a : Fin 16) : ∃ b, RunnerUp s a b := by
  obtain ⟨b, hb, h, h'⟩ := exists_first s (Finset.univ.erase a)
    (by rw [← Finset.card_pos, Finset.card_erase_of_mem (Finset.mem_univ a), Finset.card_univ, Fintype.card_fin]; decide)
  exact ⟨b, (Finset.mem_erase.mp hb).1, fun e he => h e (Finset.mem_erase.mpr ⟨he, Finset.mem_univ e⟩),
    fun e he => h' e (Finset.mem_erase.mpr ⟨he, Finset.mem_univ e⟩)⟩

/-- The best position of a row. -/
def best (s : Fin 16 → EReal) : Fin 16 := Classical.choose (exists_best s)
/-- The runner-up to the best position of a row. -/
def runnerUp (s : Fin 16 → EReal) : Fin 16 := Classical.choose (exists_runnerUp s (best s))

/-- The chosen best position is one. -/
theorem best_spec (s : Fin 16 → EReal) : Best s (best s) := Classical.choose_spec (exists_best s)
/-- The chosen runner-up is one, of the chosen best position. -/
theorem runnerUp_spec (s : Fin 16 → EReal) : RunnerUp s (best s) (runnerUp s) := Classical.choose_spec (exists_runnerUp s (best s))

/-! ## The kernel's search -/

/-- A maximum from −∞ of values that never pass `v` and reach it is `v`. -/
theorem fold_max_eq {f : Fin 16 → EReal} {v : EReal} (hle : ∀ e, f e ≤ v) (e₀ : Fin 16) (h₀ : f e₀ = v) :
    Finset.univ.fold max ⊥ f = v :=
  le_antisymm ((Finset.fold_max_le v).mpr ⟨bot_le, fun e _ => hle e⟩)
    ((Finset.le_fold_max v).mpr (Or.inr ⟨e₀, Finset.mem_univ e₀, h₀.ge⟩))

/-- The negated number of position `e`, as an extended real. -/
def negPos (e : Fin 16) : EReal := ((-(e.val : ℝ) : ℝ) : EReal)

/-- Negated position numbers are ordered against their positions. -/
theorem negPos_le {e e' : Fin 16} : negPos e ≤ negPos e' ↔ e' ≤ e := by
  unfold negPos
  rw [EReal.coe_le_coe_iff, neg_le_neg_iff, Nat.cast_le, Fin.le_def]

/-- Different positions have different negated numbers. -/
theorem negPos_inj {e e' : Fin 16} : negPos e = negPos e' ↔ e = e' :=
  ⟨fun h => le_antisymm (negPos_le.mp h.ge) (negPos_le.mp h.le), fun h => congrArg negPos h⟩

/-- The filler −16 is below every negated position number. -/
theorem filler_le (e : Fin 16) : (((-16 : ℝ) : ℝ) : EReal) ≤ negPos e := by
  unfold negPos
  have h : (e.val : ℝ) ≤ 16 := by exact_mod_cast e.isLt.le
  exact EReal.coe_le_coe_iff.mpr (by linarith)

/-- The kernel's search for the first position where the row `s` takes the value `v`: the greatest of the negated numbers of
    those positions, −16 standing at the others. -/
def search (s : Fin 16 → EReal) (v : EReal) : EReal :=
  Finset.univ.fold max ⊥ fun e => if s e = v then negPos e else (((-16 : ℝ) : ℝ) : EReal)

/-- If `a` is the first position where `s` takes the value `v`, the search returns `a`'s negated number. -/
theorem search_eq {s : Fin 16 → EReal} {v : EReal} {a : Fin 16} (ha : s a = v) (hfirst : ∀ e, s e = v → a ≤ e) :
    search s v = negPos a := by
  refine fold_max_eq (fun e => ?_) a (if_pos ha)
  by_cases h : s e = v
  · rw [if_pos h]; exact negPos_le.mpr (hfirst e h)
  · rw [if_neg h]; exact filler_le a

/-- The row with the entry at `a` struck out to −∞. -/
def struck (s : Fin 16 → EReal) (a : Fin 16) : Fin 16 → EReal := fun e => if e = a then ⊥ else s e

variable {s : Fin 16 → EReal} {a b : Fin 16}

/-- The row's maximum is the best entry. -/
theorem max_eq (ha : Best s a) : Finset.univ.fold max ⊥ s = s a := fold_max_eq ha.le a rfl

/-- The search for the row's maximum finds the best position. -/
theorem search_best (ha : Best s a) : search s (s a) = negPos a :=
  search_eq rfl fun e he => not_lt.mp fun h => (ha.lt e h).ne he

/-- The struck row's maximum is the runner-up's entry. -/
theorem max_struck (hb : RunnerUp s a b) : Finset.univ.fold max ⊥ (struck s a) = s b := by
  refine fold_max_eq (fun e => ?_) b (if_neg hb.ne)
  unfold struck
  by_cases h : e = a
  · rw [if_pos h]; exact bot_le
  · rw [if_neg h]; exact hb.le e h

/-- The search for the struck row's maximum finds the runner-up, whose entry is not −∞. -/
theorem search_struck (hb : RunnerUp s a b) (hbot : s b ≠ ⊥) : search (struck s a) (s b) = negPos b := by
  refine search_eq (if_neg hb.ne) fun e he => ?_
  unfold struck at he
  by_cases h : e = a
  · rw [if_pos h] at he; exact absurd he.symm hbot
  · rw [if_neg h] at he; exact not_lt.mp fun hlt => (hb.lt e h hlt).ne he

/-! ## The stable sort -/

/-- "Position `k`'s entry is greater than position `k'`'s", the comparator of a sort with the greater entries first. -/
def greater (s : Fin 16 → EReal) (k k' : Fin 16) : Bool := decide (s k' < s k)

/-- The comparator with its ties broken by position: greater entry, or the same entry at the lower position. -/
def greaterOrFirst (s : Fin 16 → EReal) (k k' : Fin 16) : Bool := decide (s k' < s k) || (decide (s k = s k') && decide (k < k'))

/-- A list of positions in ascending order is sorted alike by the comparator and by the comparator with its ties broken. -/
theorem stableSort_greater (s : Fin 16 → EReal) : ∀ l : List (Fin 16), l.Pairwise (· < ·) →
    stableSort (greater s) l = stableSort (greaterOrFirst s) l
  | [], _ => rfl
  | k :: l, h => by
    have h' := List.pairwise_cons.mp h
    unfold stableSort
    rw [stableSort_greater s l h'.2]
    refine insertBefore_congr _ _ _ _ fun k' hk' => ?_
    have hlt : k < k' := h'.1 k' ((perm_stableSort _ _).mem_iff.mp hk')
    unfold greater greaterOrFirst
    rw [decide_eq_false (not_lt.mpr hlt.le), Bool.and_false, Bool.or_false]

/-- The sort by the comparator is the sort by the comparator with its ties broken. -/
theorem sortedFrom_greater (s : Fin 16 → EReal) : sortedFrom (greater s) = sortedFrom (greaterOrFirst s) := by
  funext k
  unfold sortedFrom
  refine List.getElem_of_eq (?_ : sortPositions 16 (greater s) = sortPositions 16 (greaterOrFirst s)) _
  exact stableSort_greater s _ (List.pairwise_lt_finRange 16)

/-- The comparator with its ties broken is a strict total order. -/
theorem strictTotal (s : Fin 16 → EReal) : StrictTotalBefore (greaterOrFirst s) :=
  StrictTotalBefore.of_key_then_position (fun x y : EReal => decide (y < x)) s (by simp)
    (fun x y z h h' => decide_eq_true ((of_decide_eq_true h').trans (of_decide_eq_true h)))
    (fun x y => by
      rcases lt_trichotomy x y with h | h | h
      · exact Or.inr (Or.inr (decide_eq_true h))
      · exact Or.inr (Or.inl h)
      · exact Or.inl (decide_eq_true h))

/-- Nothing comes before the best position, -/
theorem not_before_best (ha : Best s a) (p : Fin 16) : greaterOrFirst s p a = false := by
  unfold greaterOrFirst
  rw [decide_eq_false (not_lt.mpr (ha.le p)), Bool.false_or, Bool.and_eq_false_iff, decide_eq_false_iff_not, decide_eq_false_iff_not]
  by_cases h : p < a
  · exact Or.inl (ha.lt p h).ne
  · exact Or.inr h

/-- and nothing but the best position before the runner-up. -/
theorem not_before_runnerUp (hb : RunnerUp s a b) (p : Fin 16) (hp : p ≠ a) : greaterOrFirst s p b = false := by
  unfold greaterOrFirst
  rw [decide_eq_false (not_lt.mpr (hb.le p hp)), Bool.false_or, Bool.and_eq_false_iff, decide_eq_false_iff_not, decide_eq_false_iff_not]
  by_cases h : p < b
  · exact Or.inl (hb.lt p hp h).ne
  · exact Or.inr h

/-- The first two places of the stable sort, greater first, are the best position and the runner-up. -/
theorem sortedFrom_pair (ha : Best s a) (hb : RunnerUp s a b) (i : Fin 2) :
    sortedFrom (greater s) (i.castLE (by decide)) = (![a, b] : Fin 2 → Fin 16) i := by
  rw [sortedFrom_greater]
  refine (strictTotal s).sortedFrom_eq_of_prefix (by decide) ![a, b] (fun i j h => ?_) (fun i j hij => ?_) (fun i p hp => ?_) i
  · match i, j with
    | 0, 0 => rfl
    | 0, 1 => exact absurd h.symm hb.ne
    | 1, 0 => exact absurd h hb.ne
    | 1, 1 => rfl
  · match i, j, hij with
    | 0, 0, h => exact absurd h (lt_irrefl _)
    | 0, 1, _ => exact not_before_best ha b
    | 1, 0, h => exact absurd h (by decide)
    | 1, 1, h => exact absurd h (lt_irrefl _)
  · match i with
    | 0 => exact not_before_best ha p
    | 1 => exact not_before_runnerUp hb p (fun h => hp 0 h.symm)

/-! ## The softmax of the two kept scores -/

/-- The weight that a row gives to expert `e`: with `E = exp (v₁ − v₀)` for the best score `v₀` and the runner-up's `v₁`, the best
    position gets `1 / (1 + E)`, the runner-up `E · (1 / (1 + E))`, every other position nothing. -/
def share (s : Fin 16 → EReal) (a b e : Fin 16) : EReal :=
  if e = a then Ideal.div 1 (1 + Ideal.exp (s b - s a))
  else if e = b then Ideal.exp (s b - s a) * Ideal.div 1 (1 + Ideal.exp (s b - s a)) else 0

/-- The row that keeps the scores at `a` and `b` and has −∞ elsewhere. -/
def kept (s : Fin 16 → EReal) (a b e : Fin 16) : EReal := if e = b then s b else if e = a then s a else ⊥

/-- The kept row's maximum is the best score. -/
theorem max_kept (ha : Best s a) (hb : RunnerUp s a b) : Finset.univ.fold max ⊥ (kept s a b) = s a := by
  refine fold_max_eq (fun e => ?_) a (by unfold kept; rw [if_neg hb.ne.symm, if_pos rfl])
  unfold kept
  split
  · exact ha.le b
  · split
    · exact le_rfl
    · exact bot_le

/-- The exponentials of the kept row's entries less the best score: `E` at the runner-up, one at the best position, zero elsewhere. -/
theorem exp_kept {p q : ℝ} (hp : s a = (p : EReal)) (hq : s b = (q : EReal)) (e : Fin 16) :
    Ideal.exp (kept s a b e - s a)
      = if e = b then ((Real.exp (q - p) : ℝ) : EReal) else if e = a then 1 else 0 := by
  unfold kept
  rw [hp, hq]
  split
  · rw [← EReal.coe_sub, Ideal.exp_coe]
  · split
    · rw [← EReal.coe_sub, sub_self, Ideal.exp_coe, Real.exp_zero, EReal.coe_one]
    · rw [EReal.bot_sub, Ideal.exp_bot]

/-- The softmax of the kept row, its maximum taken out first, is `share`: for scores that are real numbers. -/
theorem softmax_eq_share (ha : Best s a) (hb : RunnerUp s a b) (hreal : ∀ e, ∃ x : ℝ, s e = (x : EReal)) (e : Fin 16) :
    Ideal.div (Ideal.exp (kept s a b e - Finset.univ.fold max ⊥ (kept s a b)))
        (∑ e', Ideal.exp (kept s a b e' - Finset.univ.fold max ⊥ (kept s a b)))
      = share s a b e := by
  obtain ⟨p, hp⟩ := hreal a
  obtain ⟨q, hq⟩ := hreal b
  have hsum : (∑ e', Ideal.exp (kept s a b e' - s a)) = ((1 + Real.exp (q - p) : ℝ) : EReal) := by
    have : ∀ e', Ideal.exp (kept s a b e' - s a)
        = (if e' = b then ((Real.exp (q - p) : ℝ) : EReal) else 0) + if e' = a then 1 else 0 := fun e' => by
      rw [exp_kept hp hq]
      by_cases h : e' = b
      · rw [if_pos h, if_pos h, if_neg (fun h' => hb.ne (h.symm.trans h')), add_zero]
      · rw [if_neg h, if_neg h, zero_add]
    rw [Finset.sum_congr rfl fun e' _ => this e', Finset.sum_add_distrib, Finset.sum_ite_eq', Finset.sum_ite_eq',
      if_pos (Finset.mem_univ b), if_pos (Finset.mem_univ a), EReal.coe_add, EReal.coe_one, add_comm]
  have hne : (1 + Real.exp (q - p) : ℝ) ≠ 0 := (add_pos one_pos (Real.exp_pos _)).ne'
  have hE : Ideal.exp (s b - s a) = ((Real.exp (q - p) : ℝ) : EReal) := by rw [hp, hq, ← EReal.coe_sub, Ideal.exp_coe]
  rw [max_kept ha hb, hsum, exp_kept hp hq, Ideal.div_coe hne]
  unfold share
  rw [hE, show (1 : EReal) + ((Real.exp (q - p) : ℝ) : EReal) = ((1 + Real.exp (q - p) : ℝ) : EReal) by rw [EReal.coe_add, EReal.coe_one],
    Ideal.div_coe hne]
  by_cases h : e = b
  · rw [if_pos h, if_neg (fun h' => hb.ne (h.symm.trans h')), if_pos h, one_mul]
  · rw [if_neg h, if_neg h]
    split
    · rfl
    · rw [zero_mul]

/-! ## Position numbers as words -/

/-- Zero less a negated position number, rounded toward zero to a 32-bit word, is the position's word. -/
theorem fptosi_zero_sub_negPos (e : Fin 16) : Ideal.fptosi 32 (0 - negPos e) = BitVec.ofNat 32 e.val := by
  have h : (0 : EReal) - negPos e = ((e.val : ℝ) : EReal) := by
    unfold negPos
    rw [← EReal.coe_zero, ← EReal.coe_sub, sub_neg_eq_add, zero_add]
  rw [h]
  clear h
  unfold Ideal.fptosi
  rw [Ideal.toIntClamped_coe, if_pos (Nat.cast_nonneg _), Int.floor_natCast]
  revert e
  decide

end Cert.TopTwo

end
-- ==== Proof.Score.lean ====
/-
  THE SCORES OF ONE TOKEN. `score z W1 b1 W2 b2 e` is expert `e`'s score for a token with entries `z`: the hidden layer
  `max (∑ⱼ zⱼ W1ⱼₖ + b1ₖ) 0` contracted with `W2` and shifted by `b2`. Here stand that it is a real number when every entry it reads
  is (`score_real`), and that a sum over 2048 places is the sum of its eight 256-place parts added from the left, the order in which
  the kernel adds its eight partial products (`sum_eight`).
-/
module

public import Idealize.ShloMosaic.Lib.Pointwise

@[expose] public section

noncomputable section

open Idealize.ShloMosaic

namespace Cert.Score

/-- Expert `e`'s score for a token with entries `z`: a hidden layer of 512 rectified sums, contracted with `W2`, plus `b2`. -/
def score (z : Fin 2048 → EReal) (W1 : Fin 2048 → Fin 512 → EReal) (b1 : Fin 512 → EReal) (W2 : Fin 512 → Fin 16 → EReal)
    (b2 : Fin 16 → EReal) (e : Fin 16) : EReal :=
  ∑ k, max (∑ j, z j * W1 j k + b1 k) 0 * W2 k e + b2 e

/-- The extended real is a real number. -/
def IsReal (x : EReal) : Prop := ∃ r : ℝ, x = (r : EReal)

/-- The sum of two real numbers is one. -/
theorem IsReal.add {x y : EReal} : IsReal x → IsReal y → IsReal (x + y)
  | ⟨r, hr⟩, ⟨q, hq⟩ => ⟨r + q, by rw [hr, hq, EReal.coe_add]⟩

/-- The product of two real numbers is one. -/
theorem IsReal.mul {x y : EReal} : IsReal x → IsReal y → IsReal (x * y)
  | ⟨r, hr⟩, ⟨q, hq⟩ => ⟨r * q, by rw [hr, hq, EReal.coe_mul]⟩

/-- The greater of a real number and zero is one. -/
theorem IsReal.max_zero {x : EReal} (hx : IsReal x) : IsReal (max x 0) := by
  rcases max_choice x 0 with h | h
  · rw [h]; exact hx
  · rw [h]; exact ⟨0, EReal.coe_zero.symm⟩

/-- A finite sum of real numbers is one. -/
theorem IsReal.sum {ι : Type} (S : Finset ι) {f : ι → EReal} (hf : ∀ i, IsReal (f i)) : IsReal (∑ i ∈ S, f i) := by
  classical
  induction S using Finset.induction_on with
  | empty => exact ⟨0, by rw [Finset.sum_empty, EReal.coe_zero]⟩
  | insert i S hi ih => rw [Finset.sum_insert hi]; exact (hf i).add ih

/-- An extended real whose absolute value is below +∞ is a real number. -/
theorem isReal_of_abs_lt {x : EReal} (h : max x (-x) < ⊤) : IsReal x := by
  induction x with
  | bot => exact absurd h (by simp)
  | top => exact absurd h (by simp)
  | coe r => exact ⟨r, rfl⟩

/-- The scores are real numbers when every entry read is one. -/
theorem score_real {z : Fin 2048 → EReal} {W1 : Fin 2048 → Fin 512 → EReal} {b1 : Fin 512 → EReal} {W2 : Fin 512 → Fin 16 → EReal}
    {b2 : Fin 16 → EReal} (hz : ∀ j, IsReal (z j)) (hW1 : ∀ j k, IsReal (W1 j k)) (hb1 : ∀ k, IsReal (b1 k))
    (hW2 : ∀ k e, IsReal (W2 k e)) (hb2 : ∀ e, IsReal (b2 e)) (e : Fin 16) : IsReal (score z W1 b1 W2 b2 e) :=
  (IsReal.sum _ fun k => (((IsReal.sum _ fun j => (hz j).mul (hW1 j k)).add (hb1 k)).max_zero).mul (hW2 k e)).add (hb2 e)

/-- A sum over 2048 places, cut into eight parts of 256 places added from the left. -/
theorem sum_eight (f : Fin 2048 → EReal) :
    ∑ j, f j
      = (∑ t : Fin 256, f ⟨0 + t.val, by have := t.isLt; omega⟩) + (∑ t : Fin 256, f ⟨256 + t.val, by have := t.isLt; omega⟩)
        + (∑ t : Fin 256, f ⟨512 + t.val, by have := t.isLt; omega⟩) + (∑ t : Fin 256, f ⟨768 + t.val, by have := t.isLt; omega⟩)
        + (∑ t : Fin 256, f ⟨1024 + t.val, by have := t.isLt; omega⟩) + (∑ t : Fin 256, f ⟨1280 + t.val, by have := t.isLt; omega⟩)
        + (∑ t : Fin 256, f ⟨1536 + t.val, by have := t.isLt; omega⟩) + (∑ t : Fin 256, f ⟨1792 + t.val, by have := t.isLt; omega⟩) := by
  rw [Fin.sum_univ_tiles 8 256 rfl, Fin.sum_univ_eight]
  rfl

end Cert.Score

end
-- ==== Proof.KernelRow.lean ====
/-
  ONE BLOCK OF THE KERNEL, ROW BY ROW. The kernel's body on blocks `x0` (tokens), `x1`, `x2` (first layer), `x3`, `x4` (second layer)
  computes a [2048, 16] block of scores, which at row `r` are that token's `Score.score` (`scores_apply`); searches each row for its
  best position and its runner-up; and stores, at row `r`, the two weights (`out5_apply`: `TopTwo.share` of the row) and the two
  position numbers (`out6_apply`).
-/
module

public import proofs.«01_k».proof.Proof.Gen.KernelIdeal.Frame
public import proofs.«01_k».proof.Proof.TopTwo
public import proofs.«01_k».proof.Proof.Score
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem

namespace Cert.KernelIdeal.RowValue

open Cert.KernelIdeal Cert.KernelIdeal.Gen Cert.TopTwo Cert.Score

/-! ## The float constants -/

/-- The pattern of −∞ is the least extended real. -/
theorem bits_negInf : Ideal.ofBits .f32 4286578688#32 = ⊥ := by simp [Ideal.ofBits, Ideal.ieee]

/-- The filler's pattern is −16. -/
theorem bits_filler : Ideal.ofBits .f32 3246391296#32 = (((-16 : ℝ) : ℝ) : EReal) := by
  simp [Ideal.ofBits, Ideal.ieee, -EReal.coe_mul, -EReal.coe_neg]; norm_num

/-- The pattern of one is one. -/
theorem bits_one : Ideal.ofBits .f32 1065353216#32 = 1 := Ideal.ofBits_one_f32

/-- A select on a decided condition is an `if`. -/
theorem select_decide {α : Type} (p : Prop) [Decidable p] (x y : α) : Scalar.select (BitVec.ofBool (decide p)) x y = if p then x else y := by
  by_cases h : p <;> simp [Scalar.select, h]

/-! ## The body's values at a row, over any score block

`A` is the sum of the first six partial products, the other operands are the last two slices of the tokens and of `W1`, and the
remaining parameters: the operands of the body's score block `k0_pay5`, which stays whole here. -/

/-- The negated position numbers: every row is `negPos`. -/
theorem pay6_apply (r : Fin 2048) (e : Fin 16) : k0_pay6 (F := Ideal) (ix2 r e) = negPos e := by
  pointwise [k0_pay6]
  show (((IntOp.subi (0#32) (BitVec.ofNat 32 e.val)).toInt : ℝ) : EReal) = negPos e
  have h : ∀ e : Fin 16, (IntOp.subi (0#32) (BitVec.ofNat 32 e.val)).toInt = -(e.val : Int) := by decide
  rw [h e]
  unfold negPos
  push_cast
  rfl

/-- The filler block is −16 everywhere. -/
theorem pay13_apply (r : Fin 2048) (e : Fin 16) : k0_pay13 (F := Ideal) (ix2 r e) = (((-16 : ℝ) : ℝ) : EReal) := by
  pointwise [k0_pay13]
  exact bits_filler

variable (A : FVec Ideal S2048x512 .f32) (z0 : Vec Ideal S2048x256 .f32) (w0 : Vec Ideal S256x512 .f32) (z1 : Vec Ideal S2048x256 .f32)
  (w1 : Vec Ideal S256x512 .f32) (b1 : Vec Ideal S1x512 .f32) (W2 : Vec Ideal S512x16 .f32) (b2 : Vec Ideal S1x16 .f32)

/-- Row `r` of the score block. -/
def row (r : Fin 2048) : Fin 16 → EReal := fun e => k0_pay5 A z0 w0 z1 w1 b1 W2 b2 (ix2 r e)

/-- The row maximum is the best position's score. -/
theorem pay7_apply (r : Fin 2048) : k0_pay7 A z0 w0 z1 w1 b1 W2 b2 (ix2 r 0) = row A z0 w0 z1 w1 b1 W2 b2 r (best (row A z0 w0 z1 w1 b1 W2 b2 r)) := by
  rw [← max_eq (best_spec (row A z0 w0 z1 w1 b1 W2 b2 r))]
  unfold k0_pay7 row
  generalize k0_pay5 A z0 w0 z1 w1 b1 W2 b2 = s
  pointwise
  rw [bits_negInf]

/-- The first search, for the row maximum, finds the best position's negated number. -/
theorem pay8_apply (r : Fin 2048) : k0_pay8 A z0 w0 z1 w1 b1 W2 b2 (ix2 r 0) = negPos (best (row A z0 w0 z1 w1 b1 W2 b2 r)) := by
  rw [← search_best (best_spec (row A z0 w0 z1 w1 b1 W2 b2 r)), ← pay7_apply]
  unfold k0_pay8 row search
  simp only [← pay6_apply r]
  generalize k0_pay5 A z0 w0 z1 w1 b1 W2 b2 = s
  generalize k0_pay7 A z0 w0 z1 w1 b1 W2 b2 = v0
  generalize k0_pay6 (F := Ideal) = n
  pointwise
  rw [bits_negInf, bits_filler]

/-- The mark of the position found first: set at the best position only. -/
theorem pay9_apply (r : Fin 2048) (e : Fin 16) : k0_pay9 A z0 w0 z1 w1 b1 W2 b2 (ix2 r e)
    = BitVec.ofBool (decide (e = best (row A z0 w0 z1 w1 b1 W2 b2 r))) := by
  have h := pay8_apply A z0 w0 z1 w1 b1 W2 b2 r
  have h6 := pay6_apply r e
  unfold k0_pay9
  generalize k0_pay8 A z0 w0 z1 w1 b1 W2 b2 = v0 at h ⊢
  generalize k0_pay6 (F := Ideal) = n at h6 ⊢
  pointwise
  simp only [h, h6, negPos_inj]

/-- The scores with −∞ at the marked position: the row with its best position struck out. -/
theorem pay10_apply (r : Fin 2048) (e : Fin 16) : k0_pay10 A z0 w0 z1 w1 b1 W2 b2 (ix2 r e)
    = struck (row A z0 w0 z1 w1 b1 W2 b2 r) (best (row A z0 w0 z1 w1 b1 W2 b2 r)) e := by
  have h := pay9_apply A z0 w0 z1 w1 b1 W2 b2 r e
  unfold k0_pay10 struck
  generalize k0_pay9 A z0 w0 z1 w1 b1 W2 b2 = v0 at h ⊢
  generalize best _ = a at h ⊢
  unfold row
  generalize k0_pay5 A z0 w0 z1 w1 b1 W2 b2 = s at h ⊢
  pointwise
  rw [h, select_decide, bits_negInf]

/-- The maximum of the struck row is the runner-up's score. -/
theorem pay11_apply (r : Fin 2048) : k0_pay11 A z0 w0 z1 w1 b1 W2 b2 (ix2 r 0) = row A z0 w0 z1 w1 b1 W2 b2 r (runnerUp (row A z0 w0 z1 w1 b1 W2 b2 r)) := by
  rw [← max_struck (runnerUp_spec (row A z0 w0 z1 w1 b1 W2 b2 r)), ← funext (pay10_apply A z0 w0 z1 w1 b1 W2 b2 r)]
  unfold k0_pay11
  generalize k0_pay10 A z0 w0 z1 w1 b1 W2 b2 = s
  pointwise
  rw [bits_negInf]

/-- The second search, for that maximum in the struck row, finds the runner-up's negated number where the scores are real. -/
theorem pay1_apply (r : Fin 2048) (hreal : ∀ e, IsReal (row A z0 w0 z1 w1 b1 W2 b2 r e)) :
    k0_pay1 (k0_pay6 (F := Ideal)) (k0_pay12 A z0 w0 z1 w1 b1 W2 b2) (k0_pay13 (F := Ideal)) (ix2 r 0)
      = negPos (runnerUp (row A z0 w0 z1 w1 b1 W2 b2 r)) := by
  rw [← search_struck (runnerUp_spec (row A z0 w0 z1 w1 b1 W2 b2 r)) (by obtain ⟨x, hx⟩ := hreal (runnerUp (row A z0 w0 z1 w1 b1 W2 b2 r)); rw [hx]; exact EReal.coe_ne_bot x),
    ← pay11_apply, ← funext (pay10_apply A z0 w0 z1 w1 b1 W2 b2 r)]
  unfold k0_pay1 k0_pay12 search
  simp only [← pay6_apply r]
  have h13 := pay13_apply r
  generalize k0_pay10 A z0 w0 z1 w1 b1 W2 b2 = s
  generalize k0_pay11 A z0 w0 z1 w1 b1 W2 b2 = v1
  generalize k0_pay6 (F := Ideal) = n
  generalize k0_pay13 (F := Ideal) = f at h13 ⊢
  pointwise
  simp only [bits_negInf, h13]

/-- The stored weights at a row: `share` of the row's scores. -/
theorem pay2_apply (r : Fin 2048) (hreal : ∀ e, IsReal (row A z0 w0 z1 w1 b1 W2 b2 r e)) (e : Fin 16) :
    k0_pay2 (k0_pay6 (F := Ideal)) (k0_pay7 A z0 w0 z1 w1 b1 W2 b2) (k0_pay9 A z0 w0 z1 w1 b1 W2 b2) (k0_pay11 A z0 w0 z1 w1 b1 W2 b2)
        (k0_pay12 A z0 w0 z1 w1 b1 W2 b2) (k0_pay13 (F := Ideal)) (ix2 r e)
      = share (row A z0 w0 z1 w1 b1 W2 b2 r) (best (row A z0 w0 z1 w1 b1 W2 b2 r)) (runnerUp (row A z0 w0 z1 w1 b1 W2 b2 r)) e := by
  have h1 := pay1_apply A z0 w0 z1 w1 b1 W2 b2 r hreal
  have h6 := pay6_apply r e
  have h7 := pay7_apply A z0 w0 z1 w1 b1 W2 b2 r
  have h9 := pay9_apply A z0 w0 z1 w1 b1 W2 b2 r e
  have h11 := pay11_apply A z0 w0 z1 w1 b1 W2 b2 r
  unfold k0_pay2 share
  generalize k0_pay1 (F := Ideal) _ _ _ = p at h1 ⊢
  generalize k0_pay6 (F := Ideal) = n at h6 ⊢
  generalize k0_pay7 A z0 w0 z1 w1 b1 W2 b2 = v0 at h7 ⊢
  generalize k0_pay9 A z0 w0 z1 w1 b1 W2 b2 = q at h9 ⊢
  generalize k0_pay11 A z0 w0 z1 w1 b1 W2 b2 = v1 at h11 ⊢
  pointwise
  simp only [h1, h6, h7, h9, h11, negPos_inj, select_decide]

/-- The stored position numbers at a row: the best position, then the runner-up. -/
theorem pay3_apply (r : Fin 2048) (hreal : ∀ e, IsReal (row A z0 w0 z1 w1 b1 W2 b2 r e)) (k : Fin 2) :
    k0_pay3 (k0_pay6 (F := Ideal)) (k0_pay8 A z0 w0 z1 w1 b1 W2 b2) (k0_pay12 A z0 w0 z1 w1 b1 W2 b2) (k0_pay13 (F := Ideal)) (ix2 r k)
      = BitVec.ofNat 32 ((![best (row A z0 w0 z1 w1 b1 W2 b2 r), runnerUp (row A z0 w0 z1 w1 b1 W2 b2 r)] : Fin 2 → Fin 16) k).val := by
  have h1 := pay1_apply A z0 w0 z1 w1 b1 W2 b2 r hreal
  have h8 := pay8_apply A z0 w0 z1 w1 b1 W2 b2 r
  unfold k0_pay3
  generalize k0_pay1 (F := Ideal) _ _ _ = p at h1 ⊢
  generalize k0_pay8 A z0 w0 z1 w1 b1 W2 b2 = v0 at h8 ⊢
  pointwise
  fin_cases k
  · show Ideal.fptosi 32 (0 - v0 (ix2 r 0)) = _
    rw [h8]; exact fptosi_zero_sub_negPos _
  · show Ideal.fptosi 32 (0 - p (ix2 r 0)) = _
    rw [h1]; exact fptosi_zero_sub_negPos _

/-! ## The score block of the staged blocks -/

/-- The body's score block at row `r`: the eight partial products, the bias, the clamp at zero and the second layer are the token's
    `Score.score`, the sum over 2048 places cut into eight. -/
theorem scores_apply (x0 : Vec Ideal S2048x2048 .f32) (x1 : Vec Ideal S2048x512 .f32) (x2 : Vec Ideal S1x512 .f32) (x3 : Vec Ideal S512x16 .f32)
    (x4 : Vec Ideal S1x16 .f32) (r : Fin 2048) (e : Fin 16) :
    k0_pay5 (k0_pay14 x0 x1 x2 x3 x4) (View.ld x0 r0_12) (View.ld x1 r0_13) (View.ld x0 r0_14) (View.ld x1 r0_15) (View.ld x2 r0_16)
        (View.ld x3 r0_17) (View.ld x4 r0_18) (ix2 r e)
      = score (fun j => x0 (ix2 r j)) (fun j k => x1 (ix2 j k)) (fun k => x2 (ix2 0 k)) (fun k e => x3 (ix2 k e)) (fun e => x4 (ix2 0 e)) e := by
  unfold score
  simp only [sum_eight]
  pointwise [k0_pay5, k0_pay14, k0_pay4]

/-- A store's offset written as two zeros is the zero offset. -/
theorem hz : (![0, 0] : Fin 2 → Nat) = fun _ => 0 := funext fun a => by fin_cases a <;> rfl

variable (x0 : Vec Ideal S2048x2048 .f32) (x1 : Vec Ideal S2048x512 .f32) (x2 : Vec Ideal S1x512 .f32) (x3 : Vec Ideal S512x16 .f32)
  (x4 : Vec Ideal S1x16 .f32)

/-- The scores of the token at row `r` of the staged blocks. -/
def blockScore (r : Fin 2048) : Fin 16 → EReal :=
  score (fun j => x0 (ix2 r j)) (fun j k => x1 (ix2 j k)) (fun k => x2 (ix2 0 k)) (fun k e => x3 (ix2 k e)) (fun e => x4 (ix2 0 e))

/-- The body's row of scores is the token's scores. -/
theorem row_eq (r : Fin 2048) :
    row (k0_pay14 x0 x1 x2 x3 x4) (View.ld x0 r0_12) (View.ld x1 r0_13) (View.ld x0 r0_14) (View.ld x1 r0_15) (View.ld x2 r0_16)
        (View.ld x3 r0_17) (View.ld x4 r0_18) r = blockScore x0 x1 x2 x3 x4 r :=
  funext fun e => scores_apply x0 x1 x2 x3 x4 r e

/-- What the body leaves in the weights' block, where the row's scores are real. -/
theorem out5_apply (r : Fin 2048) (hreal : ∀ e, IsReal (blockScore x0 x1 x2 x3 x4 r e)) (e : Fin 16) :
    out0_5 x0 x1 x2 x3 x4 (ix2 r e)
      = share (blockScore x0 x1 x2 x3 x4 r) (best (blockScore x0 x1 x2 x3 x4 r)) (runnerUp (blockScore x0 x1 x2 x3 x4 r)) e := by
  rw [← row_eq] at hreal ⊢
  rw [← pay2_apply _ _ _ _ _ _ _ _ r hreal e]
  unfold out0_5
  rw [View.canon_unit_zero hz]
  rfl

/-- What the body leaves in the position numbers' block, where the row's scores are real. -/
theorem out6_apply (r : Fin 2048) (hreal : ∀ e, IsReal (blockScore x0 x1 x2 x3 x4 r e)) (k : Fin 2) :
    out0_6 x0 x1 x2 x3 x4 (ix2 r k)
      = BitVec.ofNat 32 ((![best (blockScore x0 x1 x2 x3 x4 r), runnerUp (blockScore x0 x1 x2 x3 x4 r)] : Fin 2 → Fin 16) k).val := by
  rw [← row_eq] at hreal ⊢
  rw [← pay3_apply _ _ _ _ _ _ _ _ r hreal k]
  unfold out0_6
  rw [View.canon_unit_zero hz]
  rfl

end Cert.KernelIdeal.RowValue

end
-- ==== Proof.KernelValue.lean ====
/-
  WHAT THE KERNEL'S RESULT ARRAYS HOLD. Grid point `t` stages rows `2048 t …` of the tokens and the whole of the weights and biases
  (`block0` … `block4`), so its block of scores is the scores of those tokens; what it writes back is its block of one function of the
  launch's arrays (`flushed5_eq`, `flushed6_eq`); the four blocks cover the results (`cover5`, `cover6`); so the results end at
  `weights` and `places` (`final5`, `final6`, `run`).
-/
module

public import proofs.«01_k».proof.Proof.KernelRow
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.RowValue Cert.TopTwo Cert.Score

variable (m : (ℓ : Loc nD τ sig) → Buf (Elt Ideal) ℓ) (ρ : Dev nD → PrngReg)

/-! ## The function of the launch's arrays -/

/-- Token `i`'s scores, of the launch's arrays. -/
def tokenScore (c : Dev nD) (i : Fin 8192) : Fin 16 → EReal :=
  score (fun j => m ((c : Thread nD τ).loc main_arg0) (ix2 i j)) (fun j k => m ((c : Thread nD τ).loc main_arg1) (ix2 j k))
    (fun k => m ((c : Thread nD τ).loc main_arg2) (ix1 k)) (fun k e => m ((c : Thread nD τ).loc main_arg3) (ix2 k e))
    (fun e => m ((c : Thread nD τ).loc main_arg4) (ix1 e))

/-- The weights: each token's `share`. -/
def weights (c : Dev nD) : Buf (Elt Ideal) ((c : Thread nD τ).loc main_v2_0) :=
  fun i : S8192x16.Idx => share (tokenScore m c (i 0)) (best (tokenScore m c (i 0))) (runnerUp (tokenScore m c (i 0))) (i 1)

/-- The position numbers: each token's best position, then its runner-up. -/
def places (c : Dev nD) : Buf (Elt Ideal) ((c : Thread nD τ).loc main_v2_1) :=
  fun i : S8192x2.Idx => BitVec.ofNat 32 ((![best (tokenScore m c (i 0)), runnerUp (tokenScore m c (i 0))] : Fin 2 → Fin 16) (i 1)).val

/-! ## The staged blocks -/

/-- The first bias as the region finds it: the launch's, as one row. -/
theorem V_bias1 (c : Dev nD) (k : Fin 512) : V m c main_v0 (ix2 (0 : Fin 1) k) = m ((c : Thread nD τ).loc main_arg2) (ix1 k) := by
  have h : V m c main_v0 = shapeCast S1x512 (m ((c : Thread nD τ).loc main_arg2)) shapeCasts_S512_S1x512 := by
    unfold V hostOps0
    after_results
    rfl
  rw [h]
  pointwise

/-- The second bias as the region finds it: the launch's, as one row. -/
theorem V_bias2 (c : Dev nD) (e : Fin 16) : V m c main_v1 (ix2 (0 : Fin 1) e) = m ((c : Thread nD τ).loc main_arg4) (ix1 e) := by
  have h : V m c main_v1 = shapeCast S1x16 (m ((c : Thread nD τ).loc main_arg4)) shapeCasts_S16_S1x16 := by
    unfold V hostOps0
    after_results
    rfl
  rw [h]
  pointwise

/-- Where the windows' blocks start: the tokens and the results move by whole blocks down their rows, the rest stays. -/
theorem starts : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0])

/-- Row `r` of grid point `t`'s block, as a row of the whole arrays. -/
def rowOf (t : Fin cfg0.N) (r : Fin 2048) : Fin 8192 := ⟨t.val * 2048 + r.val, by have : t.val < 4 := lt_of_lt_of_eq t.isLt N_0; omega⟩

/-- The tokens' block at point `t` holds rows `2048 t …` of the tokens. -/
theorem block0 (c : Dev nD) (t : Fin cfg0.N) (r : Fin 2048) (j : Fin 2048) :
    iblk m c 0 t (ix2 r j) = m ((c : Thread nD τ).loc main_arg0) (ix2 (rowOf t r) j) := by
  show V m c main_arg0 _ = _
  rw [V_main_arg0]
  refine congrArg _ (funext fun a => Fin.ext ?_)
  match a with
  | ⟨0, _⟩ => show win0_0.index t 0 * 2048 + 1 * r.val = t.val * 2048 + r.val
              rw [(starts t).1]; show t.val * 2048 + 1 * r.val = _; omega
  | ⟨1, _⟩ => show win0_0.index t 1 * 2048 + 1 * j.val = j.val
              rw [(starts t).1]; show 0 * 2048 + 1 * j.val = _; omega

/-- The first layer's weights are staged whole. -/
theorem block1 (c : Dev nD) (t : Fin cfg0.N) (j : Fin 2048) (k : Fin 512) :
    iblk m c 1 t (ix2 j k) = m ((c : Thread nD τ).loc main_arg1) (ix2 j k) := by
  show V m c main_arg1 _ = _
  rw [V_main_arg1]
  refine congrArg _ (funext fun a => Fin.ext ?_)
  match a with
  | ⟨0, _⟩ => show win0_1.index t 0 * 2048 + 1 * j.val = j.val
              rw [(starts t).2.1]; show 0 * 2048 + 1 * j.val = _; omega
  | ⟨1, _⟩ => show win0_1.index t 1 * 512 + 1 * k.val = k.val
              rw [(starts t).2.1]; show 0 * 512 + 1 * k.val = _; omega

/-- The first layer's bias is staged whole. -/
theorem block2 (c : Dev nD) (t : Fin cfg0.N) (k : Fin 512) :
    iblk m c 2 t (ix2 (0 : Fin 1) k) = m ((c : Thread nD τ).loc main_arg2) (ix1 k) := by
  rw [← V_bias1 m c k]
  show V m c main_v0 _ = _
  refine congrArg _ (funext fun a => Fin.ext ?_)
  match a with
  | ⟨0, _⟩ => show win0_2.index t 0 * 1 + 1 * 0 = 0
              rw [(starts t).2.2.1]; rfl
  | ⟨1, _⟩ => show win0_2.index t 1 * 512 + 1 * k.val = k.val
              rw [(starts t).2.2.1]; show 0 * 512 + 1 * k.val = _; omega

/-- The second layer's weights are staged whole. -/
theorem block3 (c : Dev nD) (t : Fin cfg0.N) (k : Fin 512) (e : Fin 16) :
    iblk m c 3 t (ix2 k e) = m ((c : Thread nD τ).loc main_arg3) (ix2 k e) := by
  show V m c main_arg3 _ = _
  rw [V_main_arg3]
  refine congrArg _ (funext fun a => Fin.ext ?_)
  match a with
  | ⟨0, _⟩ => show win0_3.index t 0 * 512 + 1 * k.val = k.val
              rw [(starts t).2.2.2.1]; show 0 * 512 + 1 * k.val = _; omega
  | ⟨1, _⟩ => show win0_3.index t 1 * 16 + 1 * e.val = e.val
              rw [(starts t).2.2.2.1]; show 0 * 16 + 1 * e.val = _; omega

/-- The second layer's bias is staged whole. -/
theorem block4 (c : Dev nD) (t : Fin cfg0.N) (e : Fin 16) :
    iblk m c 4 t (ix2 (0 : Fin 1) e) = m ((c : Thread nD τ).loc main_arg4) (ix1 e) := by
  rw [← V_bias2 m c e]
  show V m c main_v1 _ = _
  refine congrArg _ (funext fun a => Fin.ext ?_)
  match a with
  | ⟨0, _⟩ => show win0_4.index t 0 * 1 + 1 * 0 = 0
              rw [(starts t).2.2.2.2.1]; rfl
  | ⟨1, _⟩ => show win0_4.index t 1 * 16 + 1 * e.val = e.val
              rw [(starts t).2.2.2.2.1]; show 0 * 16 + 1 * e.val = _; omega

/-- The scores of row `r` of the staged blocks are that token's. -/
theorem blockScore_eq (c : Dev nD) (t : Fin cfg0.N) (r : Fin 2048) :
    blockScore (iblk m c 0 t) (iblk m c 1 t) (iblk m c 2 t) (iblk m c 3 t) (iblk m c 4 t) r = tokenScore m c (rowOf t r) := by
  funext e
  unfold blockScore tokenScore score
  simp only [block0, block1, block2, block3, block4]

/-! ## What each point writes back -/

/-- Point `t` writes back its block of `weights`. -/
theorem flushed5_eq (hreal : ∀ c i e, IsReal (tokenScore m c i e)) (c : Dev nD) (t : Fin cfg0.N) :
    (dats m 0 c).flushed 5 t = (win0_5.blk t).view.read (Elt Ideal) (weights m c) := by
  rw [Value.flushed5]
  funext i
  obtain ⟨r, e, rfl⟩ : ∃ (r : Fin 2048) (e : Fin 16), i = ix2 r e := ⟨i 0, i 1, funext fun a => match a with | ⟨0, _⟩ => rfl | ⟨1, _⟩ => rfl⟩
  refine (out5_apply _ _ _ _ _ r (by rw [blockScore_eq]; exact hreal c _) e).trans ?_
  rw [blockScore_eq]
  have h0 : (((win0_5.blk t).view.emb (ix2 r e) : S8192x16.Idx) 0) = rowOf t r := Fin.ext (by
    show win0_5.index t 0 * 2048 + 1 * r.val = t.val * 2048 + r.val
    rw [(starts t).2.2.2.2.2.1]; show t.val * 2048 + 1 * r.val = _; omega)
  have h1 : (((win0_5.blk t).view.emb (ix2 r e) : S8192x16.Idx) 1) = e := Fin.ext (by
    show win0_5.index t 1 * 16 + 1 * e.val = e.val
    rw [(starts t).2.2.2.2.2.1]; show 0 * 16 + 1 * e.val = _; omega)
  show _ = share (tokenScore m c ((((win0_5.blk t).view.emb (ix2 r e) : S8192x16.Idx) 0))) _ _ _
  rw [h0, h1]

/-- Point `t` writes back its block of `places`. -/
theorem flushed6_eq (hreal : ∀ c i e, IsReal (tokenScore m c i e)) (c : Dev nD) (t : Fin cfg0.N) :
    (dats m 0 c).flushed 6 t = (win0_6.blk t).view.read (Elt Ideal) (places m c) := by
  rw [Value.flushed6]
  funext i
  obtain ⟨r, k, rfl⟩ : ∃ (r : Fin 2048) (k : Fin 2), i = ix2 r k := ⟨i 0, i 1, funext fun a => match a with | ⟨0, _⟩ => rfl | ⟨1, _⟩ => rfl⟩
  refine (out6_apply _ _ _ _ _ r (by rw [blockScore_eq]; exact hreal c _) k).trans ?_
  rw [blockScore_eq]
  have h0 : (((win0_6.blk t).view.emb (ix2 r k) : S8192x2.Idx) 0) = rowOf t r := Fin.ext (by
    show win0_6.index t 0 * 2048 + 1 * r.val = t.val * 2048 + r.val
    rw [(starts t).2.2.2.2.2.2]; show t.val * 2048 + 1 * r.val = _; omega)
  have h1 : (((win0_6.blk t).view.emb (ix2 r k) : S8192x2.Idx) 1) = k := Fin.ext (by
    show win0_6.index t 1 * 2 + 1 * k.val = k.val
    rw [(starts t).2.2.2.2.2.2]; show 0 * 2 + 1 * k.val = _; omega)
  show _ = BitVec.ofNat 32 ((![best (tokenScore m c ((((win0_6.blk t).view.emb (ix2 r k) : S8192x2.Idx) 0))), _] : Fin 2 → Fin 16) _).val
  rw [h0, h1]

/-! ## The blocks cover the results -/

/-- Point `t`'s block of the weights is the rows from `2048 t` to below `2048 t + 2048`. -/
theorem mem_blk5 (t : Fin cfg0.N) (i : S8192x16.Idx) :
    i ∈ ((cfg0.win 5).blk t).view.set ↔ t.val * 2048 ≤ (i 0 : Nat) ∧ (i 0 : Nat) < t.val * 2048 + 2048 := by
  show i ∈ ((View.whole main_v2_0).slice (win0_5.rect t)).set ↔ _
  rw [View.set_slice_whole, Rect.mem_set_unit]
  have h1 : (i 1 : Nat) < 16 := (i 1).isLt
  have e0 : win0_5.index t 0 = t.val := by rw [(starts t).2.2.2.2.2.1]; rfl
  have e1 : win0_5.index t 1 = 0 := by rw [(starts t).2.2.2.2.2.1]; rfl
  refine ⟨fun h => ?_, fun h a => ?_⟩
  · have : win0_5.index t 0 * 2048 ≤ (i 0 : Nat) ∧ (i 0 : Nat) < win0_5.index t 0 * 2048 + 2048 := h 0
    rw [e0] at this; exact this
  · match a with
    | ⟨0, _⟩ => show win0_5.index t 0 * 2048 ≤ (i 0 : Nat) ∧ (i 0 : Nat) < win0_5.index t 0 * 2048 + 2048
                rw [e0]; exact h
    | ⟨1, _⟩ => show win0_5.index t 1 * 16 ≤ (i 1 : Nat) ∧ (i 1 : Nat) < win0_5.index t 1 * 16 + 16
                rw [e1]; omega

/-- Point `t`'s block of the position numbers is the same rows. -/
theorem mem_blk6 (t : Fin cfg0.N) (i : S8192x2.Idx) :
    i ∈ ((cfg0.win 6).blk t).view.set ↔ t.val * 2048 ≤ (i 0 : Nat) ∧ (i 0 : Nat) < t.val * 2048 + 2048 := by
  show i ∈ ((View.whole main_v2_1).slice (win0_6.rect t)).set ↔ _
  rw [View.set_slice_whole, Rect.mem_set_unit]
  have h1 : (i 1 : Nat) < 2 := (i 1).isLt
  have e0 : win0_6.index t 0 = t.val := by rw [(starts t).2.2.2.2.2.2]; rfl
  have e1 : win0_6.index t 1 = 0 := by rw [(starts t).2.2.2.2.2.2]; rfl
  refine ⟨fun h => ?_, fun h a => ?_⟩
  · have : win0_6.index t 0 * 2048 ≤ (i 0 : Nat) ∧ (i 0 : Nat) < win0_6.index t 0 * 2048 + 2048 := h 0
    rw [e0] at this; exact this
  · match a with
    | ⟨0, _⟩ => show win0_6.index t 0 * 2048 ≤ (i 0 : Nat) ∧ (i 0 : Nat) < win0_6.index t 0 * 2048 + 2048
                rw [e0]; exact h
    | ⟨1, _⟩ => show win0_6.index t 1 * 2 ≤ (i 1 : Nat) ∧ (i 1 : Nat) < win0_6.index t 1 * 2 + 2
                rw [e1]; omega

/-- Every index of the weights is in some point's block. -/
theorem cover5 (i : S8192x16.Idx) : ∃ t : Fin cfg0.N, (cfg0.win 5).flush t = true ∧ i ∈ ((cfg0.win 5).blk t).view.set := by
  have h0 : (i 0 : Nat) < 8192 := (i 0).isLt
  have hN : cfg0.N = 4 := N_0
  refine ⟨⟨(i 0 : Nat) / 2048, by omega⟩, flush0_5 _, ?_⟩
  rw [mem_blk5]
  dsimp only
  omega

/-- Every index of the position numbers is in some point's block. -/
theorem cover6 (i : S8192x2.Idx) : ∃ t : Fin cfg0.N, (cfg0.win 6).flush t = true ∧ i ∈ ((cfg0.win 6).blk t).view.set := by
  have h0 : (i 0 : Nat) < 8192 := (i 0).isLt
  have hN : cfg0.N = 4 := N_0
  refine ⟨⟨(i 0 : Nat) / 2048, by omega⟩, flush0_6 _, ?_⟩
  rw [mem_blk6]
  dsimp only
  omega

/-! ## The result arrays, and the run -/

/-- Where the scores are real, the first result ends at `weights`. -/
theorem final5 (hreal : ∀ c i e, IsReal (tokenScore m c i e)) (c : Dev nD) : (dats m 0 c).arrAt 5 cfg0.N = weights m c :=
  (dats m 0 c).arrAt_eq_of_cover 5 (weights m c) (fun t _ => flushed5_eq m hreal c t) cover5

/-- Where the scores are real, the second result ends at `places`. -/
theorem final6 (hreal : ∀ c i e, IsReal (tokenScore m c i e)) (c : Dev nD) : (dats m 0 c).arrAt 6 cfg0.N = places m c :=
  (dats m 0 c).arrAt_eq_of_cover 6 (places m c) (fun t _ => flushed6_eq m hreal c t) cover6

/-- The run: where the scores are real, the results end at `weights` and `places`, the arguments unchanged. -/
theorem run (hreal : ∀ c i e, IsReal (tokenScore m c i e)) :
    θ_run defs (onTc (τ := τ) (main (F := Ideal))) ⟨m, fun _ => 0, ρ⟩ fun r => ∀ c : Dev nD,
      r.2.mem ((c : Thread nD τ).loc main_v2_0) = weights m c
      ∧ r.2.mem ((c : Thread nD τ).loc main_v2_1) = places m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final5 m hreal c), (h c).2.1.trans (final6 m hreal c), (h c).2.2⟩)
    (Value.run_blocks m ρ)

end Cert.KernelIdeal.ArrayValue

end
-- ==== Proof.ReferenceRow.lean ====
/-
  WHAT THE REFERENCE COMPUTES, ROW BY ROW. Its scores at token `r` are `Score.score` of that token (`tokenScore`: the noise branch is
  multiplied by zero, so it adds zero); its `top_k` gives the best position and the runner-up with their scores (`topK_value`,
  `topK_index`); its scatter writes the two scores into a row of −∞ (`TopTwo.kept`); its softmax of that row is
  `TopTwo.share` (`weights_apply`, and `places_apply` for the position numbers).
-/
module

public import proofs.«01_k».proof.Proof.Gen.ReferenceIdeal.Run
public import proofs.«01_k».proof.Proof.TopTwo
public import proofs.«01_k».proof.Proof.Score
public import Idealize.ShloMosaic.Lib.Pointwise
public import Idealize.ShloMosaic.Lib.ScatterToDense.RefScatter
public import Idealize.ShloMosaic.Lib.Routing.OpsPair

@[expose] public section

set_option maxRecDepth 16384

noncomputable section

open Idealize.ShloMosaic Idealize.ShloMosaic.TcCoe Idealize.SL.Sem

namespace Cert.ReferenceIdeal.RowValue

open Cert.ReferenceIdeal Cert.ReferenceIdeal.Gen Cert.ReferenceIdeal.Value Cert.TopTwo Cert.Score

/-- The pattern of −∞ is the least extended real. -/
theorem bits_negInf : Ideal.ofBits .f32 4286578688#32 = ⊥ := by simp [Ideal.ofBits, Ideal.ieee]

/-! ## The first two of a row, greater first -/

variable (S : FVec Ideal S8192x16 .f32)

/-- Along the columns, an index is its row and the column asked for. -/
theorem along_col (r : Fin 8192) (k q : Fin 16) : ((ix2 r k : S8192x16.Idx).along 1 q) = ix2 r q :=
  funext fun a => match a with | ⟨0, _⟩ => rfl | ⟨1, _⟩ => rfl

/-- The order the reference's sort reads: greater first. -/
theorem order_eq (r : Fin 8192) : (fun k k' : Fin 16 => FloatOps.cmpfTotal (F := Ideal) (φ := .f32) .gt (S (ix2 r k)) (S (ix2 r k')) == 1#1)
    = greater (fun e => S (ix2 r e)) := by
  funext k k'
  show (BitVec.ofBool (decide _) == 1#1) = decide _
  by_cases h : S (ix2 r k') < S (ix2 r k) <;> simp [h]

/-- `top_k`'s scores at a row: the best, then the runner-up's. -/
theorem topK_value (r : Fin 8192) (k : Fin 2) :
    (Host.topK S8192x2 1 (FloatOps.cmpfTotal (F := Ideal) (φ := .f32) .gt) S sliceFits_S8192x16_S8192x2).1 (ix2 r k)
      = S (ix2 r ((![best (fun e => S (ix2 r e)), runnerUp (fun e => S (ix2 r e))] : Fin 2 → Fin 16) k)) := by
  rw [← sortedFrom_pair (best_spec fun e => S (ix2 r e)) (runnerUp_spec fun e => S (ix2 r e)) k, ← order_eq]
  unfold Host.topK Host.sort2
  pointwise
  simp only [along_col]
  rfl

/-- `top_k`'s position numbers at a row: the best position, then the runner-up. -/
theorem topK_index (r : Fin 8192) (k : Fin 2) :
    (Host.topK S8192x2 1 (FloatOps.cmpfTotal (F := Ideal) (φ := .f32) .gt) S sliceFits_S8192x16_S8192x2).2 (ix2 r k)
      = BitVec.ofNat 32 ((![best (fun e => S (ix2 r e)), runnerUp (fun e => S (ix2 r e))] : Fin 2 → Fin 16) k).val := by
  rw [← sortedFrom_pair (best_spec fun e => S (ix2 r e)) (runnerUp_spec fun e => S (ix2 r e)) k, ← order_eq]
  unfold Host.topK Host.sort2
  pointwise
  simp only [along_col]
  rfl

/-- A position number's word, read back. -/
theorem toNat_place (e : Fin 16) : (BitVec.ofNat 32 e.val).toNat = e.val := by
  rw [BitVec.toNat_ofNat]
  exact Nat.mod_eq_of_lt (lt_trans e.isLt (by decide))

/-! ## The results -/

variable (m : (ℓ : Loc nD τ sig) → Buf (Elt Ideal) ℓ)

/-- Token `i`'s scores, of the launch's arrays. -/
def tokenScore (c : Dev nD) (i : Fin 8192) : Fin 16 → EReal :=
  score (fun j => m ((c.tc : Thread nD τ).loc main_arg0) (ix2 i j)) (fun j k => m ((c.tc : Thread nD τ).loc main_arg1) (ix2 j k))
    (fun k => m ((c.tc : Thread nD τ).loc main_arg2) (ix1 k)) (fun k e => m ((c.tc : Thread nD τ).loc main_arg3) (ix2 k e))
    (fun e => m ((c.tc : Thread nD τ).loc main_arg4) (ix1 e))

/-- The position numbers the reference returns. -/
theorem places_apply (c : Dev nD) (r : Fin 8192) (k : Fin 2) :
    res_main_indices m c (ix2 r k)
      = BitVec.ofNat 32 ((![best (tokenScore m c r), runnerUp (tokenScore m c r)] : Fin 2 → Fin 16) k).val := by
  unfold res_main_indices
  generalize hs : (addf (F := Ideal) (φ := .f32) _ _ : FVec Ideal S8192x16 .f32) = s
  have key : (fun e => s (ix2 r e)) = tokenScore m c r := by
    funext e
    subst hs
    pointwise
    rw [zero_mul, add_zero]
    rfl
  rw [← key]
  exact topK_index s r k

/-- The weights the reference returns, where the row's scores are real. -/
theorem weights_apply (c : Dev nD) (r : Fin 8192) (hreal : ∀ e, IsReal (tokenScore m c r e)) (e : Fin 16) :
    res_main_v50 m c (ix2 r e) = share (tokenScore m c r) (best (tokenScore m c r)) (runnerUp (tokenScore m c r)) e := by
  unfold res_main_v50
  generalize hs : (addf (F := Ideal) (φ := .f32) _ _ : FVec Ideal S8192x16 .f32) = s
  have key : (fun e => s (ix2 r e)) = tokenScore m c r := by
    funext e
    subst hs
    pointwise
    rw [zero_mul, add_zero]
    rfl
  clear hs
  have hv : ∀ k : Fin 2, (Host.topK S8192x2 1 (FloatOps.cmpfTotal (F := Ideal) (φ := .f32) .gt) s sliceFits_S8192x16_S8192x2).1 (ix2 r k)
      = tokenScore m c r ((![best (tokenScore m c r), runnerUp (tokenScore m c r)] : Fin 2 → Fin 16) k) :=
    fun k => by rw [topK_value, key]; exact congrFun key _
  have hi : ∀ k : Fin 2, (Host.topK S8192x2 1 (FloatOps.cmpfTotal (F := Ideal) (φ := .f32) .gt) s sliceFits_S8192x16_S8192x2).2 (ix2 r k)
      = BitVec.ofNat 32 ((![best (tokenScore m c r), runnerUp (tokenScore m c r)] : Fin 2 → Fin 16) k).val :=
    fun k => by rw [topK_index, key]
  have hlt : ∀ (i : Fin 8192) (k : Fin 2),
      ((Host.topK S8192x2 1 (FloatOps.cmpfTotal (F := Ideal) (φ := .f32) .gt) s sliceFits_S8192x16_S8192x2).2 (ix2 i k)).toNat < 2 ^ 31 :=
    fun i k => by rw [topK_index, toNat_place]; exact lt_trans (Fin.isLt _) (by decide)
  generalize Host.topK S8192x2 1 (FloatOps.cmpfTotal (F := Ideal) (φ := .f32) .gt) s sliceFits_S8192x16_S8192x2 = T at hv hi hlt ⊢
  generalize hX : Host.scatter scatter_S8192x16_S8192x2x2_S8192x2_n_01_01_2 (fun _ b => b) _ _ _ = X
  have hrow : (fun e => X (ix2 r e)) = kept (tokenScore m c r) (best (tokenScore m c r)) (runnerUp (tokenScore m c r)) := by
    funext e
    rw [← hX, ix2_eq_valueIdx]
    refine (ScatterToDense.scatter_eq_GS scatter_S8192x16_S8192x2x2_S8192x2_n_01_01_2 rfl rfl rfl (by decide) (by decide) _ _ _
      (fun i k => if h : k < 2 then T.2 (ix2 i ⟨k, h⟩) else 0#32) (fun i k => if h : k < 2 then T.1 (ix2 i ⟨k, h⟩) else 0)
      (fun i k => ?_) (fun i k => ?_) (fun i k => ?_) r e).trans ?_
    · pointwise
      exact Routing.wrap_of_lt _ _ (by
        rw [BitVec.toNat_ofNat]
        exact Nat.lt_of_le_of_lt (Nat.mod_le _ _) (by have := i.isLt; show i.val < 2 ^ 31; omega))
    · pointwise
      exact Routing.wrap_of_lt _ _ (hlt i k)
    · rw [← ix2_eq_valueIdx, dif_pos k.isLt]
    · have h0 := hi 0
      have h1 := hi 1
      have v0 := hv 0
      have v1 := hv 1
      simp only [ScatterToDense.GS_succ, ScatterToDense.GS_zero]
      rw [dif_pos (by decide), dif_pos (by decide), dif_pos (by decide), dif_pos (by decide)]
      show (if e.val = (T.2 (ix2 r 1)).toNat then T.1 (ix2 r 1) else if e.val = (T.2 (ix2 r 0)).toNat then T.1 (ix2 r 0) else _) = _
      rw [h0, h1, v0, v1, toNat_place, toNat_place]
      unfold kept
      simp only [← Fin.ext_iff]
      pointwise
      rw [bits_negInf]
  have hpt : ∀ e, X (ix2 r e) = kept (tokenScore m c r) (best (tokenScore m c r)) (runnerUp (tokenScore m c r)) e := congrFun hrow
  pointwise
  simp only [hpt, bits_negInf]
  rw [max_eq_right bot_le]
  exact softmax_eq_share (best_spec _) (runnerUp_spec _) hreal e

end Cert.ReferenceIdeal.RowValue

end
-- ==== Proof.FiniteInputs.lean ====
/-
  THE PRECONDITION, READ. `finite_inputs` compares the absolute value of every entry of the tokens, of the two weight matrices and of the
  two biases with +∞; where all comparisons hold, every entry is a real number (`real_of_lt`), so every token's scores are
  (`scores_real`).
-/
module

public import proofs.«01_k».proof.Defs
public import proofs.«01_k».proof.Proof.KernelValue

@[expose] public section

set_option maxRecDepth 16384

noncomputable section

open Idealize.ShloMosaic Idealize.ShloMosaic.TcCoe Idealize.SL.Sem

namespace Cert.Pre_finite_inputs.Reading

open Cert.Score

/-- The side conditions of the precondition: its constant spreads over each array. -/
theorem facts : Cert.Pre_finite_inputs.Facts := ⟨by decide, by decide, by decide, by decide, by decide⟩

/-- The pattern of +∞ is the greatest extended real. -/
theorem bits_posInf : Ideal.ofBits .f32 2139095040#32 = ⊤ := by simp [Ideal.ofBits, Ideal.ieee]

/-- Where an array's comparison of absolute values with +∞ is all ones, each entry is a real number. -/
theorem real_of_lt {s : Shape} (x : FVec Ideal s .f32) (h : Shape.BroadcastsInDim ⟨0, ![]⟩ s (![] : Fin 0 → Fin s.rank))
    (hx : cmpf .olt (Host.absf x) (broadcastInDim s ![] h (constant (F := Ideal) ⟨0, ![]⟩ .f32 0x7F800000#32)) = fun _ => 1#1) (i : s.Idx) :
    IsReal (x i) := by
  have h1 : BitVec.ofBool (decide (max (x i) (-(x i)) < Ideal.ofBits .f32 2139095040#32)) = 1#1 := congrFun hx i
  rw [bits_posInf] at h1
  refine isReal_of_abs_lt ?_
  by_contra hn
  rw [decide_eq_false hn] at h1
  exact absurd h1 (by decide)

end Cert.Pre_finite_inputs.Reading

namespace Cert.KernelIdeal.ArrayValue

open Cert.KernelIdeal Cert.KernelIdeal.Gen Cert.Score

/-- Under the precondition every token's scores are real numbers. -/
theorem scores_real [Cert.Pre_finite_inputs.Facts] (m : (ℓ : Loc nD τ sig) → Buf (Elt Ideal) ℓ) (hpre : Cert.Pre_KernelIdeal_finite_inputs m)
    (c : Dev nD) (i : Fin 8192) (e : Fin 16) : IsReal (tokenScore m c i e) := by
  obtain ⟨hz, hW1, hb1, hW2, hb2⟩ := hpre c
  exact score_real (fun j => Cert.Pre_finite_inputs.Reading.real_of_lt _ _ hz _) (fun j k => Cert.Pre_finite_inputs.Reading.real_of_lt _ _ hW1 _)
    (fun k => Cert.Pre_finite_inputs.Reading.real_of_lt _ _ hb1 _) (fun k e => Cert.Pre_finite_inputs.Reading.real_of_lt _ _ hW2 _)
    (fun e => Cert.Pre_finite_inputs.Reading.real_of_lt _ _ hb2 _) e

end Cert.KernelIdeal.ArrayValue

end
-- ==== Proof.lean ====
/-
  THE PROOF OF `Cert.Claim` (Defs.lean). The programs run without fault and leave their arguments as they were (`frame_kernel`,
  `frame_kernelIdeal`, `frame_reference`); the idealized kernel is the kernel, operation by operation (`preserves`); and, on finite
  inputs, kernel and reference return the same weights and the same position numbers (`algebraic`): every token's weights are
  `TopTwo.share` of its scores, its position numbers those of its best score and of its runner-up, on both sides.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.ReferenceRow
public import proofs.«01_k».proof.Proof.FiniteInputs
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Proof

/-- The kernel runs without fault, leaves its arguments as they were, and every semaphore ends at zero. -/
theorem frame_kernel : Cert.quiescent_Kernel := fun m ρ _ => Cert.Kernel.Gen.frame m ρ

/-- The idealized kernel likewise. -/
theorem frame_kernelIdeal : Cert.quiescent_KernelIdeal := fun m ρ _ => Cert.KernelIdeal.Gen.frame m ρ

/-- The idealized kernel likewise from the memories the precondition holds of. -/
theorem frame_kernelIdeal_finite [Cert.Pre_finite_inputs.Facts] : Cert.quiescent_KernelIdeal_pre_finite_inputs :=
  fun m ρ _ => Cert.KernelIdeal.Gen.frame m ρ

/-- The reference runs and leaves its arguments as they were; it has no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The reference likewise from the memories the precondition holds of. -/
theorem frame_reference_finite [Cert.Pre_finite_inputs.Facts] : Cert.quiescent_ReferenceIdeal_pre_finite_inputs :=
  fun m ρ _ => frame_reference m ρ trivial

/-- Idealizing the kernel replaced nothing. -/
theorem preserves : Cert.preserves_Kernel_KernelIdeal := trivial

/-- On finite inputs the idealized kernel and the reference return the same weights and the same position numbers. -/
theorem algebraic [Cert.Pre_finite_inputs.Facts] : Cert.algebraic_KernelIdeal_ReferenceIdeal_pre_finite_inputs := by
  intro m ρ m' ρ' hpre hagree
  have hreal := Cert.KernelIdeal.ArrayValue.scores_real m hpre
  have hscore (c : Dev Cert.KernelIdeal.nD) (i : Fin 8192) :
      Cert.ReferenceIdeal.RowValue.tokenScore m' c i = Cert.KernelIdeal.ArrayValue.tokenScore m c i := by
    obtain ⟨h0, h1, h2, h3, h4, -⟩ := hagree c
    unfold Cert.ReferenceIdeal.RowValue.tokenScore Cert.KernelIdeal.ArrayValue.tokenScore
    rw [h0, h1, h2, h3, h4]
  refine ⟨Cert.KernelIdeal.ArrayValue.weights m, Cert.KernelIdeal.ArrayValue.places m, Cert.KernelIdeal.ArrayValue.run m ρ hreal, ?_⟩
  refine (θ_run Cert.ReferenceIdeal.defs _ _).mono (fun _ h c => ⟨(h c).1.trans (funext fun i => ?_), (h c).2.1.trans (funext fun i => ?_), (h c).2.2⟩)
    (Cert.ReferenceIdeal.Value.run (F := Ideal) m' ρ')
  · obtain ⟨r, e, rfl⟩ : ∃ (r : Fin 8192) (e : Fin 16), i = ix2 r e := ⟨i 0, i 1, funext fun a => match a with | ⟨0, _⟩ => rfl | ⟨1, _⟩ => rfl⟩
    refine (Cert.ReferenceIdeal.RowValue.weights_apply m' c r (fun e => by rw [hscore]; exact hreal c r e) e).trans ?_
    rw [hscore]
    rfl
  · obtain ⟨r, k, rfl⟩ : ∃ (r : Fin 8192) (k : Fin 2), i = ix2 r k := ⟨i 0, i 1, funext fun a => match a with | ⟨0, _⟩ => rfl | ⟨1, _⟩ => rfl⟩
    refine (Cert.ReferenceIdeal.RowValue.places_apply m' c r k).trans ?_
    rw [hscore]
    rfl

/-- All the claims, with the side conditions the programs and the precondition state. -/
theorem claim : Cert.Claim :=
  ⟨Cert.Kernel.Gen.facts, Cert.KernelIdeal.Gen.facts, Cert.ReferenceIdeal.Gen.facts, Cert.Pre_finite_inputs.Reading.facts,
    frame_kernel, frame_kernelIdeal, @frame_kernelIdeal_finite Cert.Pre_finite_inputs.Reading.facts, frame_reference,
    @frame_reference_finite Cert.Pre_finite_inputs.Reading.facts, preserves, @algebraic Cert.Pre_finite_inputs.Reading.facts⟩

end Cert.Proof

end
